-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x12672 : Shape := ⟨3, ![192, 1, 12672]⟩
abbrev S2432x6336 : Shape := ⟨2, ![2432, 6336]⟩
abbrev S2432x396 : Shape := ⟨2, ![2432, 396]⟩
abbrev S192x396x2x16 : Shape := ⟨4, ![192, 396, 2, 16]⟩
abbrev S192x396x1x16 : Shape := ⟨4, ![192, 396, 1, 16]⟩
abbrev S192x396x16 : Shape := ⟨3, ![192, 396, 16]⟩
abbrev S192x6336 : Shape := ⟨2, ![192, 6336]⟩
abbrev S192x2432 : Shape := ⟨2, ![192, 2432]⟩
abbrev S256x6336 : Shape := ⟨2, ![256, 6336]⟩
abbrev S256x396 : Shape := ⟨2, ![256, 396]⟩
abbrev S192x256 : Shape := ⟨2, ![192, 256]⟩
abbrev S256x128 : Shape := ⟨2, ![256, 128]⟩
abbrev S256x128x1 : Shape := ⟨3, ![256, 128, 1]⟩
abbrev S192x128 : Shape := ⟨2, ![192, 128]⟩
abbrev S256x12 : Shape := ⟨2, ![256, 12]⟩
abbrev S256x116 : Shape := ⟨2, ![256, 116]⟩
abbrev S256x64 : Shape := ⟨2, ![256, 64]⟩
abbrev S192x64 : Shape := ⟨2, ![192, 64]⟩
abbrev S192x1x2432 : Shape := ⟨3, ![192, 1, 2432]⟩

abbrev nBuf : Space → Nat
  | .hbm => 13
  | .vmem => 10
  | .smem => 0
  | _ => 0

abbrev bufTy : (tb : Table) → Fin (tcTables nBuf tb) → BufTy
  | .hbm, ⟨0, _⟩ => ⟨S192x1x12672, .bf16⟩
  | .hbm, ⟨1, _⟩ => ⟨S2432x6336, .i8⟩
  | .hbm, ⟨2, _⟩ => ⟨S2432x396, .bf16⟩
  | .hbm, ⟨3, _⟩ => ⟨S2432x396, .bf16⟩
  | .hbm, ⟨4, _⟩ => ⟨S192x396x2x16, .bf16⟩
  | .hbm, ⟨5, _⟩ => ⟨S192x396x1x16, .bf16⟩
  | .hbm, ⟨6, _⟩ => ⟨S192x396x16, .bf16⟩
  | .hbm, ⟨7, _⟩ => ⟨S192x6336, .bf16⟩
  | .hbm, ⟨8, _⟩ => ⟨S192x396x1x16, .bf16⟩
  | .hbm, ⟨9, _⟩ => ⟨S192x396x16, .bf16⟩
  | .hbm, ⟨10, _⟩ => ⟨S192x6336, .bf16⟩
  | .hbm, ⟨11, _⟩ => ⟨S192x2432, .bf16⟩
  | .hbm, ⟨12, _⟩ => ⟨S192x1x2432, .bf16⟩
  | .local _ .vmem, ⟨0, _⟩ => ⟨S192x6336, .bf16⟩
  | .local _ .vmem, ⟨1, _⟩ => ⟨S192x6336, .bf16⟩
  | .local _ .vmem, ⟨2, _⟩ => ⟨S256x6336, .i8⟩
  | .local _ .vmem, ⟨3, _⟩ => ⟨S256x6336, .i8⟩
  | .local _ .vmem, ⟨4, _⟩ => ⟨S256x396, .bf16⟩
  | .local _ .vmem, ⟨5, _⟩ => ⟨S256x396, .bf16⟩
  | .local _ .vmem, ⟨6, _⟩ => ⟨S256x396, .bf16⟩
  | .local _ .vmem, ⟨7, _⟩ => ⟨S256x396, .bf16⟩
  | .local _ .vmem, ⟨8, _⟩ => ⟨S192x256, .bf16⟩
  | .local _ .vmem, ⟨9, _⟩ => ⟨S192x256, .bf16⟩
  | _, _ => ⟨S192x1x12672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x6336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S192x6336 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x6336 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x396 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x396 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S192x1x12672 : Shape := ⟨3, ![192, 1, 12672]⟩
abbrev S2432x6336 : Shape := ⟨2, ![2432, 6336]⟩
abbrev S2432x396 : Shape := ⟨2, ![2432, 396]⟩
abbrev S2432x396x16 : Shape := ⟨3, ![2432, 396, 16]⟩
abbrev S_ : Shape := ⟨0, ![]⟩
abbrev S2432x396x1 : Shape := ⟨3, ![2432, 396, 1]⟩
abbrev S192x1x396x32 : Shape := ⟨4, ![192, 1, 396, 32]⟩
abbrev S192x1x396x16 : Shape := ⟨4, ![192, 1, 396, 16]⟩
abbrev S192x1x2432 : Shape := ⟨3, ![192, 1, 2432]⟩

abbrev nBuf : Space → Nat
  | .hbm => 33
  | .vmem => 0
  | .smem => 0
  | _ => 0

abbrev bufTy : (tb : Table) → Fin (tcTables nBuf tb) → BufTy
  | .hbm, ⟨0, _⟩ => ⟨S192x1x12672, .bf16⟩
  | .hbm, ⟨1, _⟩ => ⟨S2432x6336, .i8⟩
  | .hbm, ⟨2, _⟩ => ⟨S2432x396, .bf16⟩
  | .hbm, ⟨3, _⟩ => ⟨S2432x396, .bf16⟩
  | .hbm, ⟨4, _⟩ => ⟨S2432x6336, .i32⟩
  | .hbm, ⟨5, _⟩ => ⟨S2432x396x16, .i32⟩
  | .hbm, ⟨6, _⟩ => ⟨S_, .i32⟩
  | .hbm, ⟨7, _⟩ => ⟨S2432x396x16, .i32⟩
  | .hbm, ⟨8, _⟩ => ⟨S2432x396x16, .i32⟩
  | .hbm, ⟨9, _⟩ => ⟨S2432x396x16, .bf16⟩
  | .hbm, ⟨10, _⟩ => ⟨S2432x396x1, .bf16⟩
  | .hbm, ⟨11, _⟩ => ⟨S2432x396x16, .bf16⟩
  | .hbm, ⟨12, _⟩ => ⟨S2432x396x16, .bf16⟩
  | .hbm, ⟨13, _⟩ => ⟨S2432x396x1, .bf16⟩
  | .hbm, ⟨14, _⟩ => ⟨S2432x396x16, .bf16⟩
  | .hbm, ⟨15, _⟩ => ⟨S2432x396x16, .bf16⟩
  | .hbm, ⟨16, _⟩ => ⟨S_, .i32⟩
  | .hbm, ⟨17, _⟩ => ⟨S2432x396x16, .i32⟩
  | .hbm, ⟨18, _⟩ => ⟨S2432x396x16, .i32⟩
  | .hbm, ⟨19, _⟩ => ⟨S2432x396x16, .bf16⟩
  | .hbm, ⟨20, _⟩ => ⟨S2432x396x1, .bf16⟩
  | .hbm, ⟨21, _⟩ => ⟨S2432x396x16, .bf16⟩
  | .hbm, ⟨22, _⟩ => ⟨S2432x396x16, .bf16⟩
  | .hbm, ⟨23, _⟩ => ⟨S2432x396x1, .bf16⟩
  | .hbm, ⟨24, _⟩ => ⟨S2432x396x16, .bf16⟩
  | .hbm, ⟨25, _⟩ => ⟨S2432x396x16, .bf16⟩
  | .hbm, ⟨26, _⟩ => ⟨S192x1x396x32, .bf16⟩
  | .hbm, ⟨27, _⟩ => ⟨S192x1x396x16, .bf16⟩
  | .hbm, ⟨28, _⟩ => ⟨S192x1x2432, .f32⟩
  | .hbm, ⟨29, _⟩ => ⟨S192x1x396x16, .bf16⟩
  | .hbm, ⟨30, _⟩ => ⟨S192x1x2432, .f32⟩
  | .hbm, ⟨31, _⟩ => ⟨S192x1x2432, .f32⟩
  | .hbm, ⟨32, _⟩ => ⟨S192x1x2432, .bf16⟩
  | _, _ => ⟨S192x1x12672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Proof.BodyBits.lean ====
/- The kernel body of the program as printed, run once on whole staging buffers, at any reading of the floats. -/
module

public import proofs.«01_k».proof.Proof.Gen.Kernel.Frame
public import proofs.«01_k».proof.Proof.Gen.Kernel.Skeleton
public import Idealize.ShloMosaic.Lib.Pipeline.FrameSuffix
public import Idealize.ShloMosaic.Lib.Tactic

@[expose] public section

set_option maxRecDepth 16384

noncomputable section

namespace Cert.FrameBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

set_option maxHeartbeats 2000000 in
/-- The kernel body on six whole staging buffers: the five inputs' are left as they were, the result's holds something. -/
theorem sound_kernel (c : Dev nD) (E : Set ℕ) (i : grid0.Coords) (arg1 : Memref sig .tc .vmem S192x6336 .bf16) (harg1 : arg1.IsWhole) (arg2 : Memref sig .tc .vmem S192x6336 .bf16) (harg2 : arg2.IsWhole) (arg3 : Memref sig .tc .vmem S256x6336 .i8) (harg3 : arg3.IsWhole) (arg4 : Memref sig .tc .vmem S256x396 .bf16) (harg4 : arg4.IsWhole) (arg5 : Memref sig .tc .vmem S256x396 .bf16) (harg5 : arg5.IsWhole) (arg6 : Memref sig .tc .vmem S192x256 .bf16) (harg6 : arg6.IsWhole)
    (x0 : Vec F S192x6336 .bf16) (x1 : Vec F S192x6336 .bf16) (x2 : Vec F S256x6336 .i8) (x3 : Vec F S256x396 .bf16) (x4 : Vec F S256x396 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton,
    k0_part14_eq_skeleton, k0_part15_eq_skeleton, k0_part16_eq_skeleton, k0_part17_eq_skeleton,
    k0_part18_eq_skeleton, k0_part19_eq_skeleton, k0_part20_eq_skeleton, k0_part21_eq_skeleton,
    k0_part22_eq_skeleton, k0_part23_eq_skeleton, k0_part24_eq_skeleton, k0_part25_eq_skeleton,
    k0_part26_eq_skeleton, k0_part27_eq_skeleton, k0_part28_eq_skeleton, k0_part29_eq_skeleton,
    k0_part30_eq_skeleton, k0_part31_eq_skeleton, k0_part32_eq_skeleton, k0_part33_eq_skeleton,
    k0_part34_eq_skeleton, k0_part35_eq_skeleton, k0_part36_eq_skeleton, k0_part37_eq_skeleton,
    k0_part38_eq_skeleton, k0_part39_eq_skeleton, k0_part40_eq_skeleton, k0_part41_eq_skeleton,
    k0_part42_eq_skeleton, k0_part43_eq_skeleton, k0_part44_eq_skeleton, k0_part45_eq_skeleton,
    k0_part46_eq_skeleton, k0_part47_eq_skeleton, k0_part48_eq_skeleton, k0_part49_eq_skeleton,
    k0_part50_eq_skeleton, k0_part51_eq_skeleton, k0_part52_eq_skeleton, k0_part53_eq_skeleton,
    k0_part54_eq_skeleton, k0_part55_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; iexists _; isplitr
  swap; · iexact H5
  ipureintro; rfl

end Cert.FrameBits

end
-- ==== Proof.FrameBits.lean ====
/- The frame of the kernel as printed, at the bit-exact reading: the run terminates, the arguments end unchanged and every
   semaphore counter ends at zero.

   The last of the grid's ten blocks overhangs its arrays, so the words of a staging buffer past the array's end are
   unknown, and so is what the body computes from them. The frame says nothing of the result, so the result's window is
   FORGOTTEN here: the body leaves something in its buffer. What the result holds is the subject of the value modules. -/
module

public import proofs.«01_k».proof.Proof.BodyBits
public import Idealize.ShloMosaic.Lib.Pipeline.FrameSuffix
public import Idealize.ShloMosaic.Lib.Tactic

@[expose] public section

set_option maxRecDepth 16384

noncomputable section

namespace Cert.FrameBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose buffers the frame says nothing of: the result's. -/
def forgets : Fin cfg0.W → Bool := fun w => w == 5

/-- The proof data: the arrays as the region finds them; after the body each input's buffer still holds its block (past
    the array's end a filler nothing reads); the result's window is forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) default (iblk m c 2 t)
    | ⟨3, _⟩ => win0_3.fill (grid0.coords t) default (iblk m c 3 t)
    | ⟨4, _⟩ => win0_4.fill (grid0.coords t) default (iblk m c 4 t)
    | ⟨5, _⟩ => default
  Φ _ := Pipeline.ΦA spec0 c
  q _ := fullShare
  owed _ := 0

/-- Each window's array starts as the region finds it. -/
theorem A_eq (c : Dev nD) (w : Fin cfg0.W) : (dats m 0 c).A w = V m c (Pipeline.arrRef spec0 w) := by
  dsimp only [dats]

/-- What the body leaves in each input's buffer. -/
theorem after_0 (c : Dev nD) (t : Fin cfg0.N) : (dats m 0 c).after 0 t = iblk m c 0 t := by dsimp only [dats]
/-- The same of the second activation window. -/
theorem after_1 (c : Dev nD) (t : Fin cfg0.N) : (dats m 0 c).after 1 t = iblk m c 1 t := by dsimp only [dats]
/-- Inside its array the buffer of the packed weights keeps its block. -/
theorem cut_after_2 (c : Dev nD) (t : Fin cfg0.N) :
    win0_2.cut (grid0.coords t) ((dats m 0 c).after 2 t) = iblk m c 2 t := win0_2.cut_fill _ _ _
/-- The same of the scales. -/
theorem cut_after_3 (c : Dev nD) (t : Fin cfg0.N) :
    win0_3.cut (grid0.coords t) ((dats m 0 c).after 3 t) = iblk m c 3 t := win0_3.cut_fill _ _ _
/-- The same of the minima. -/
theorem cut_after_4 (c : Dev nD) (t : Fin cfg0.N) :
    win0_4.cut (grid0.coords t) ((dats m 0 c).after 4 t) = iblk m c 4 t := win0_4.cut_fill _ _ _

/-- What the body finds in each input's buffer: its block, an overhanging one filled out with unknown words `d`. -/
theorem before_0 (c : Dev nD) (t : Fin cfg0.N) (d) : (dats m 0 c).before 0 t d = iblk m c 0 t :=
  before0_0_of m (dats m 0 c) (A_eq m c 0) (after_0 m c) t d
/-- The same of the second activation window. -/
theorem before_1 (c : Dev nD) (t : Fin cfg0.N) (d) : (dats m 0 c).before 1 t d = iblk m c 1 t :=
  before0_1_of m (dats m 0 c) (A_eq m c 1) (after_1 m c) t d
/-- The packed weights' block, past the array's end whatever was there. -/
theorem before_2 (c : Dev nD) (t : Fin cfg0.N) (d) :
    (dats m 0 c).before 2 t d = win0_2.fill (grid0.coords t) d (iblk m c 2 t) := by
  unfold Dat.before; rw [if_pos (fetch0_2 t)]; rfl
/-- The same of the scales. -/
theorem before_3 (c : Dev nD) (t : Fin cfg0.N) (d) :
    (dats m 0 c).before 3 t d = win0_3.fill (grid0.coords t) d (iblk m c 3 t) := by
  unfold Dat.before; rw [if_pos (fetch0_3 t)]; rfl
/-- The same of the minima. -/
theorem before_4 (c : Dev nD) (t : Fin cfg0.N) (d) :
    (dats m 0 c).before 4 t d = win0_4.fill (grid0.coords t) d (iblk m c 4 t) := by
  unfold Dat.before; rw [if_pos (fetch0_4 t)]; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point, the result's window forgotten. -/
theorem body_obligation (c : Dev nD) :
    BodyObligationLoose (dats (F := F) m 0 c) (defs₀ (F := F)) Variants.none () Set.univ forgets := fun t => by
  rw [bigSep_W0, bigSep_W0, defs₀_row]
  rw [show (dats m 0 c).Φ t.succ = (dats m 0 c).Φ t.castSucc from rfl,
    show (dats m 0 c).owesAt () t.succ = (dats m 0 c).owesAt () t.castSucc from rfl]
  simp only [before_0 m c t, before_1 m c t, before_2 m c t, before_3 m c t, before_4 m c t]
  change iprop((dats m 0 c).Φ t.castSucc ∗ (dats m 0 c).owesAt () t.castSucc
      ∗ (∃ d, owns (c : Thread nD τ) (st0_0 t) fullShare (iblk m c 0 t))
      ∗ (∃ d, owns (c : Thread nD τ) (st0_1 t) fullShare (iblk m c 1 t))
      ∗ (∃ d, owns (c : Thread nD τ) (st0_2 t) fullShare (win0_2.fill (grid0.coords t) d (iblk m c 2 t)))
      ∗ (∃ d, owns (c : Thread nD τ) (st0_3 t) fullShare (win0_3.fill (grid0.coords t) d (iblk m c 3 t)))
      ∗ (∃ d, owns (c : Thread nD τ) (st0_4 t) fullShare (win0_4.fill (grid0.coords t) d (iblk m c 4 t)))
      ∗ (∃ d, owns (c : Thread nD τ) (st0_5 t) fullShare d))
    ⊢ wp frame (wpE (defs₀ (F := F)) Variants.none c none) Set.univ (bodyAt0 t) fun _ =>
      iprop((dats m 0 c).Φ t.castSucc ∗ (dats m 0 c).owesAt () t.castSucc
      ∗ owns (c : Thread nD τ) (st0_0 t) fullShare ((dats m 0 c).after 0 t)
      ∗ owns (c : Thread nD τ) (st0_1 t) fullShare ((dats m 0 c).after 1 t)
      ∗ (∃ d, owns (c : Thread nD τ) (st0_2 t) fullShare (win0_2.fill (grid0.coords t) d (win0_2.cut (grid0.coords t) ((dats m 0 c).after 2 t))))
      ∗ (∃ d, owns (c : Thread nD τ) (st0_3 t) fullShare (win0_3.fill (grid0.coords t) d (win0_3.cut (grid0.coords t) ((dats m 0 c).after 3 t))))
      ∗ (∃ d, owns (c : Thread nD τ) (st0_4 t) fullShare (win0_4.fill (grid0.coords t) d (win0_4.cut (grid0.coords t) ((dats m 0 c).after 4 t))))
      ∗ (∃ d, owns (c : Thread nD τ) (st0_5 t) fullShare d))
  rw [after_0, after_1, cut_after_2, cut_after_3, cut_after_4]
  unfold bodyAt0
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t)
    (win0_2.fill (grid0.coords t) d2 (iblk m c 2 t)) (win0_3.fill (grid0.coords t) d3 (iblk m c 3 t))
    (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexists d2; iexact H2
  isplitl [H3]; · iexists d3; iexact H3
  isplitl [H4]; · iexists d4; iexact H4
  iexact H5

/-- The buffers the host lines after the region write: the result's reshape. -/
theorem tail_writes : ∀ ops ∈ ([hostOps1] : List (List (HloOp τ sig (Elt F)))), ∀ op ∈ ops, ∀ b : Ref sig .tc,
    Proc.devRef .tc b ∈ op.writes → b ∈ ({main_v8} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, StableHlo.unary_writes, Finset.mem_singleton] at hb ⊢
  by_contra h
  exact StableHlo.devRef_ne_of_ne h hb

set_option backward.isDefEq.respectTransparency.types false in
set_option maxHeartbeats 800000 in
/-- The run of @main from any memory with zero counters: it terminates, every input array holds what it held, every
    buffer beside the arrays and the result is unchanged, and every counter ends at zero. -/
theorem run_main : θ_run defs (onTc (τ := τ) (main (F := F))) (s₀ m ρ) (fun r =>
    RDat.FramePostR cfg0 (fun c => (dats m 0 c).toRForget forgets) {main_v8} (V m) r ∧ r.2.sem = fun _ => 0) :=
  Pipeline.θ_run_frame_around_T_forget (Q' := _) cfgs (dats m) (0 : Fin 1) launch0 defs₀ Variants.none forgets {main_v8} m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- An input array ends as the region found it. -/
theorem array_in (c : Dev nD) (w : Fin cfg0.W) (hw : (cfg0.win w).isOut = false) {f : Buf (Elt F) ((cfg0.win w).arr.view.loc (c : Thread nD τ))}
    (h : ((dats m 0 c).toRForget forgets).ArrAt w cfg0.N f) : f = V m c (Pipeline.arrRef spec0 w) :=
  (congrFun (((dats m 0 c).toRForget forgets).ArrAt_in w hw _) f ▸ h : f = (dats m 0 c).A w).trans (A_eq m c w)

/-- The frame: the run terminates, the four arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (by
        rw [Finset.mem_sdiff]
        exact ⟨Pipeline.mem_restRefs_of main_arg0 (by decide) (by decide), by decide⟩)).trans (V_main_arg0 m c),
      (array_in m c 2 rfl ((h.1 c).1 2)).trans (V_main_arg1 m c),
      (array_in m c 3 rfl ((h.1 c).1 3)).trans (V_main_arg2 m c),
      (array_in m c 4 rfl ((h.1 c).1 4)).trans (V_main_arg3 m c)⟩, h.2⟩) (run_main m ρ)

end Cert.FrameBits

end
-- ==== Proof.Block.lean ====
/- What one run of the kernel's body computes from the blocks it is given: the chunks of 128 packed columns one after
   the other, and the half chunk of 64 at the end. -/
module

public import proofs.«01_k».proof.Proof.Gen.KernelIdeal.Skeleton
public import Idealize.ShloMosaic.Lib.Pipeline.FrameBody

@[expose] public section

noncomputable section

namespace Cert.Block

open Cert.KernelIdeal Cert.KernelIdeal.Gen
open Idealize.ShloMosaic Idealize.SL.Sem

variable {F : FTy → Type} [FloatOps F]

/-- The scale column each lane reads: `off` plus the lane divided by 16, counted from the end where negative. -/
def columns (off : BitVec 32) : IVec S256x128 32 :=
  have idx : IVec S256x128 32 := addi k0_pay1 (broadcast S256x128 off)
  shapeCast S256x128 (shapeCast S256x128x1
    (select (cmpi .slt idx (broadcast S256x128 0#32)) (addi idx (broadcast S256x128 128#32)) idx)
    shapeCasts_S256x128_S256x128x1) shapeCasts_S256x128x1_S256x128

/-- 128 columns of scales (or minima), each spread over the 16 lanes of its group. -/
def spread (off : BitVec 32) (v : FVec F S256x128 .f32) : FVec F S256x128 .f32 := dynamicGather 1 v (columns off)

/-- The last 12 columns of scales (or minima), filled up with zeros to 128. -/
def padded (v : Vec F S256x12 .bf16) : FVec F S256x128 .f32 :=
  concatenate S256x128 1 [⟨S256x12, extf .f32 v bitsLt_bf16_f32⟩,
    ⟨S256x116, broadcast S256x116 (Scalar.ofBits .f32 0x00000000#32 : F .f32)⟩] concatenates_S256x12_S256x116_S256x128_d1

/-- The weights a block of 4-bit codes stands for: code times scale plus minimum. -/
def weights {s : Shape} (codes : IVec s 32) (sc mn : FVec F s .bf16) : FVec F s .bf16 :=
  addf (mulf (truncf .bf16 (sitofp .f32 codes : FVec F s .f32) bitsLt_bf16_f32) sc) mn

/-- The low four bits of every packed byte. -/
def low {s : Shape} (w : IVec s 8) : IVec s 32 := andi (extui 32 w natLt_8_32) (broadcast s 15#32)

/-- The high four bits of every packed byte. -/
def high {s : Shape} (w : IVec s 8) : IVec s 32 := shrsi (extui 32 w natLt_8_32) (broadcast s 4#32)

/-- One chunk of 128 packed columns added to the running sum: the low codes against `a`, the high codes against `b`. -/
def chunk (acc : FVec F S192x256 .f32) (sc mn : FVec F S256x128 .f32) (w : Vec F S256x128 .i8)
    (a b : Vec F S192x128 .bf16) : FVec F S192x256 .f32 :=
  addf (addf acc (matmul dot_S192x128_S256x128_S192x256_1_1_0_0_n_n none (shapeCast S192x128 a shapeCasts_S192x128_S192x128)
      (weights (low w) (truncf .bf16 sc bitsLt_bf16_f32) (truncf .bf16 mn bitsLt_bf16_f32)) (constant S192x256 .f32 0x00000000#32)))
    (matmul dot_S192x128_S256x128_S192x256_1_1_0_0_n_n none (shapeCast S192x128 b shapeCasts_S192x128_S192x128)
      (weights (high w) (truncf .bf16 sc bitsLt_bf16_f32) (truncf .bf16 mn bitsLt_bf16_f32)) (constant S192x256 .f32 0x00000000#32))

/-- The half chunk of 64 packed columns at the end. -/
def halfChunk (acc : FVec F S192x256 .f32) (sc mn : FVec F S256x128 .f32) (w : Vec F S256x64 .i8)
    (a b : Vec F S192x64 .bf16) : FVec F S192x256 .f32 :=
  have s : FVec F S256x64 .bf16 := truncf .bf16 (extractStridedSlice S256x64 ![0, 0] sc slices_S256x128_o0_0_S256x64) bitsLt_bf16_f32
  have m : FVec F S256x64 .bf16 := truncf .bf16 (extractStridedSlice S256x64 ![0, 0] mn slices_S256x128_o0_0_S256x64) bitsLt_bf16_f32
  addf (addf acc (matmul dot_S192x64_S256x64_S192x256_1_1_0_0_n_n none (shapeCast S192x64 a shapeCasts_S192x64_S192x64)
      (weights (low w) s m) (constant S192x256 .f32 0x00000000#32)))
    (matmul dot_S192x64_S256x64_S192x256_1_1_0_0_n_n none (shapeCast S192x64 b shapeCasts_S192x64_S192x64)
      (weights (high w) s m) (constant S192x256 .f32 0x00000000#32))

/-- Columns `128 k` to `128 k + 127` of the packed weights. -/
abbrev wRect (k : ℕ) (h : k < 49) : Rect S256x6336 :=
  Rect.unit (s := S256x6336) ![0, 128 * k] S256x128.size fun a => match a with
    | ⟨0, _⟩ => by simp [S256x128, S256x6336]
    | ⟨1, _⟩ => by simp [S256x128, S256x6336]; omega

/-- Columns `128 k` to `128 k + 127` of the activations. -/
abbrev xRect (k : ℕ) (h : k < 49) : Rect S192x6336 :=
  Rect.unit (s := S192x6336) ![0, 128 * k] S192x128.size fun a => match a with
    | ⟨0, _⟩ => by simp [S192x128, S192x6336]
    | ⟨1, _⟩ => by simp [S192x128, S192x6336]; omega

/-- The 128 scale columns that hold those of chunk `k`. -/
abbrev gRect (k : ℕ) (h : k < 48) : Rect S256x396 :=
  Rect.unit (s := S256x396) ![0, 128 * (k / 16)] S256x128.size fun a => match a with
    | ⟨0, _⟩ => by simp [S256x128, S256x396]
    | ⟨1, _⟩ => by simp [S256x128, S256x396]; omega

/-- The last 12 scale columns. -/
abbrev gLast : Rect S256x396 := Rect.unit (s := S256x396) ![0, 384] S256x12.size inb_S256x396_S256x12_0_384

/-- The last 64 columns of the packed weights, and of the activations. -/
abbrev wLast : Rect S256x6336 := Rect.unit (s := S256x6336) ![0, 6272] S256x64.size inb_S256x6336_S256x64_0_6272
/-- The activation columns of the last, half-width chunk. -/
abbrev xLast : Rect S192x6336 := Rect.unit (s := S192x6336) ![0, 6272] S192x64.size inb_S192x6336_S192x64_0_6272

variable (x0 x1 : Vec F S192x6336 .bf16) (x2 : Vec F S256x6336 .i8) (x3 x4 : Vec F S256x396 .bf16)

/-- The running sum after the first `n` chunks, those whose scales need no filling up. -/
def upTo : (n : ℕ) → n ≤ 48 → FVec F S192x256 .f32
  | 0, _ => broadcast S192x256 (Scalar.ofBits .f32 0x00000000#32 : F .f32)
  | k + 1, h => chunk (upTo k (by omega))
      (spread (BitVec.ofNat 32 (8 * (k % 16))) (extf .f32 (View.ld x3 (gRect k h)) bitsLt_bf16_f32))
      (spread (BitVec.ofNat 32 (8 * (k % 16))) (extf .f32 (View.ld x4 (gRect k h)) bitsLt_bf16_f32))
      (View.ld x2 (wRect k (by omega))) (View.ld x0 (xRect k (by omega))) (View.ld x1 (xRect k (by omega)))

/-- The running sum after 49 chunks. -/
def upToLast : FVec F S192x256 .f32 :=
  chunk (upTo x0 x1 x2 x3 x4 48 le_rfl) (spread 0#32 (padded (View.ld x3 gLast))) (spread 0#32 (padded (View.ld x4 gLast)))
    (View.ld x2 (wRect 48 (by omega))) (View.ld x0 (xRect 48 (by omega))) (View.ld x1 (xRect 48 (by omega)))

/-- What the body stores: the whole sum, rounded to the result's format. -/
def block : Vec F S192x256 .bf16 :=
  truncf .bf16 (halfChunk (upToLast x0 x1 x2 x3 x4) (spread 8#32 (padded (View.ld x3 gLast)))
    (spread 8#32 (padded (View.ld x4 gLast))) (View.ld x2 wLast) (View.ld x0 xLast) (View.ld x1 xLast)) bitsLt_bf16_f32

end Cert.Block

end
-- ==== Proof.BodyIdeal.lean ====
/- The kernel body run once on whole staging buffers: it leaves `Cert.Block.block` of what its inputs hold in the result's buffer. -/
module

public import proofs.«01_k».proof.Proof.Gen.KernelIdeal.Frame
public import proofs.«01_k».proof.Proof.Gen.KernelIdeal.Skeleton
public import proofs.«01_k».proof.Proof.Block
public import Idealize.ShloMosaic.Lib.Pipeline.FrameSuffix
public import Idealize.ShloMosaic.Lib.Pipeline.ValueKit.Basic
public import Idealize.ShloMosaic.Lib.Tactic

@[expose] public section

set_option maxRecDepth 16384

noncomputable section

namespace Cert.BodyIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The one store fills the whole buffer. -/
theorem covered (p0 : Vec F S192x256 .bf16) (y : S192x256.Idx) :
    ∃ pc ∈ ([⟨Rect.unit (s := S192x256) ![0, 0] S192x256.size inb_S192x256_S192x256_0_0, p0⟩] :
      List (View.Piece (Elt F) S192x256 .bf16)), y ∈ pc.1.set :=
  View.cover_of_tiled [⟨Rect.unit (s := S192x256) ![0, 0] S192x256.size inb_S192x256_S192x256_0_0, p0⟩] S192x256.size (by rfl) y

set_option maxHeartbeats 2000000 in
/-- The kernel body on six whole staging buffers: the five inputs' are left as they were, the result's holds the block's sum. -/
theorem sound_kernel (c : Dev nD) (E : Set ℕ) (i : grid0.Coords) (arg1 : Memref sig .tc .vmem S192x6336 .bf16) (harg1 : arg1.IsWhole) (arg2 : Memref sig .tc .vmem S192x6336 .bf16) (harg2 : arg2.IsWhole) (arg3 : Memref sig .tc .vmem S256x6336 .i8) (harg3 : arg3.IsWhole) (arg4 : Memref sig .tc .vmem S256x396 .bf16) (harg4 : arg4.IsWhole) (arg5 : Memref sig .tc .vmem S256x396 .bf16) (harg5 : arg5.IsWhole) (arg6 : Memref sig .tc .vmem S192x256 .bf16) (harg6 : arg6.IsWhole)
    (x0 : Vec F S192x6336 .bf16) (x1 : Vec F S192x6336 .bf16) (x2 : Vec F S256x6336 .i8) (x3 : Vec F S256x396 .bf16) (x4 : Vec F S256x396 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (Cert.Block.block x0 x1 x2 x3 x4)) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton,
    k0_part14_eq_skeleton, k0_part15_eq_skeleton, k0_part16_eq_skeleton, k0_part17_eq_skeleton,
    k0_part18_eq_skeleton, k0_part19_eq_skeleton, k0_part20_eq_skeleton, k0_part21_eq_skeleton,
    k0_part22_eq_skeleton, k0_part23_eq_skeleton, k0_part24_eq_skeleton, k0_part25_eq_skeleton,
    k0_part26_eq_skeleton, k0_part27_eq_skeleton, k0_part28_eq_skeleton, k0_part29_eq_skeleton,
    k0_part30_eq_skeleton, k0_part31_eq_skeleton, k0_part32_eq_skeleton, k0_part33_eq_skeleton,
    k0_part34_eq_skeleton, k0_part35_eq_skeleton, k0_part36_eq_skeleton, k0_part37_eq_skeleton,
    k0_part38_eq_skeleton, k0_part39_eq_skeleton, k0_part40_eq_skeleton, k0_part41_eq_skeleton,
    k0_part42_eq_skeleton, k0_part43_eq_skeleton, k0_part44_eq_skeleton, k0_part45_eq_skeleton,
    k0_part46_eq_skeleton, k0_part47_eq_skeleton, k0_part48_eq_skeleton, k0_part49_eq_skeleton,
    k0_part50_eq_skeleton, k0_part51_eq_skeleton, k0_part52_eq_skeleton, k0_part53_eq_skeleton,
    k0_part54_eq_skeleton, k0_part55_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (covered _)).trans ?_
  refine (View.canon_cons_unit_lit inb_S192x256_S192x256_0_0 _ _ (by decide)).trans ?_
  rfl

end Cert.BodyIdeal

end
-- ==== Proof.Sums.lean ====
/- The mathematics of the kernel's result: the sum a row of activations and a row of packed weights stand for. -/
module

public import Idealize.ShloMosaic.Lib.ValueIdx

@[expose] public section

noncomputable section

namespace Cert.Sums

open Idealize.ShloMosaic
open scoped BigOperators

/-- The code in the low four bits of a packed byte. -/
def lowCode (b : BitVec 8) : EReal := (((IntOp.andi (b.setWidth 32) 15#32).toInt : ℝ) : EReal)

/-- The code in the high four bits of a packed byte. -/
def highCode (b : BitVec 8) : EReal := (((IntOp.shrsi .vector (b.setWidth 32) 4#32).toInt : ℝ) : EReal)

/-- What packed column `K` adds: the activation in the first half of its group times the low code's weight, and that
    in the second half times the high code's. A weight is code times scale plus minimum, one scale and minimum for 16
    packed columns. -/
def term (a b : Fin 6336 → EReal) (w : Fin 6336 → BitVec 8) (s m : Fin 396 → EReal) (K : Fin 6336) : EReal :=
  a K * (lowCode (w K) * s ⟨K.val / 16, by omega⟩ + m ⟨K.val / 16, by omega⟩)
    + b K * (highCode (w K) * s ⟨K.val / 16, by omega⟩ + m ⟨K.val / 16, by omega⟩)

/-- The result element of one row of activations and one row of packed weights. -/
def total (a b : Fin 6336 → EReal) (w : Fin 6336 → BitVec 8) (s m : Fin 396 → EReal) : EReal :=
  ∑ K, term a b w s m K

/-- The term of a column given as a natural number, zero outside the row. -/
def termN (a b : Fin 6336 → EReal) (w : Fin 6336 → BitVec 8) (s m : Fin 396 → EReal) (K : ℕ) : EReal :=
  if h : K < 6336 then term a b w s m ⟨K, h⟩ else 0

/-- The term of a column inside the row is that column's. -/
theorem termN_of_lt (a b : Fin 6336 → EReal) (w : Fin 6336 → BitVec 8) (s m : Fin 396 → EReal) {K : ℕ} (h : K < 6336) :
    termN a b w s m K = term a b w s m ⟨K, h⟩ := dif_pos h

/-- The whole sum, its columns counted as natural numbers. -/
theorem total_eq (a b : Fin 6336 → EReal) (w : Fin 6336 → BitVec 8) (s m : Fin 396 → EReal) :
    total a b w s m = ∑ K ∈ Finset.range 6336, termN a b w s m K := by
  rw [Finset.sum_range]
  exact Finset.sum_congr rfl fun K _ => (termN_of_lt a b w s m K.isLt).symm

/-- A sum over the first `n` columns and the `c` columns after them is the sum over the first `n + c`. -/
theorem sum_next (f : ℕ → EReal) (n c : ℕ) :
    ∑ K ∈ Finset.range n, f K + ∑ l : Fin c, f (n + l.val) = ∑ K ∈ Finset.range (n + c), f K := by
  rw [Finset.sum_range_add, Finset.sum_range (fun x => f (n + x))]

/-- Where in a row of activations the one that meets packed column `K`'s low code lies: the first half of the column's
    group of 32. -/
def lowPlace (K : Fin 6336) : Fin 12672 := ⟨K.val / 16 * 32 + K.val % 16, by omega⟩

/-- Where the one that meets its high code lies: the second half. -/
def highPlace (K : Fin 6336) : Fin 12672 := ⟨K.val / 16 * 32 + 16 + K.val % 16, by omega⟩

/-- The result element of a whole row of activations and one row of packed weights. -/
def element (x : Fin 12672 → EReal) (w : Fin 6336 → BitVec 8) (s m : Fin 396 → EReal) : EReal :=
  total (fun K => x (lowPlace K)) (fun K => x (highPlace K)) w s m

/-- Packed column `j` of group `g`. -/
def column (g : Fin 396) (j : Fin 16) : Fin 6336 := ⟨g.val * 16 + j.val, by omega⟩

/-- A sum over the groups and the columns of each is the sum over all the columns. -/
theorem sum_groups (f : Fin 6336 → EReal) : ∑ g : Fin 396, ∑ j : Fin 16, f (column g j) = ∑ K, f K := by
  rw [← Fintype.sum_prod_type', ← Equiv.sum_comp (finProdFinEquiv (m := 396) (n := 16))]
  refine Finset.sum_congr rfl fun p _ => congrArg f (Fin.ext ?_)
  show p.1.val * 16 + p.2.val = p.2.val + 16 * p.1.val
  omega

end Cert.Sums

end
-- ==== Proof.BlockValue.lean ====
/- The block's sum read at an index, at exact arithmetic: the element of row `r` and column `n` is `Cert.Sums.total` of
   row `r` of the activations and row `n` of the packed weights, scales and minima. -/
module

public import proofs.«01_k».proof.Proof.Block
public import proofs.«01_k».proof.Proof.Sums
public import Idealize.ShloMosaic.Lib.ValueIdx
public import Idealize.ShloMosaic.Lib.MatmulPlain
public import Idealize.ShloMosaic.Lib.Pipeline.Value
public import Idealize.ShloMosaic.Lib.Pipeline.ValueKit.Tiles

@[expose] public section

noncomputable section

namespace Cert.Block

open Cert.KernelIdeal Cert.KernelIdeal.Gen Cert.Sums
open Idealize.ShloMosaic Idealize.ShloMosaic.ValueIdx Idealize.SL.Sem
open scoped BigOperators

/-! ## Which scale a lane reads -/

/-- Lane `l` of every row holds `l / 16`. -/
theorem lane_apply (n : Fin 256) (l : Fin 128) : k0_pay1 (ix2 n l) = BitVec.ofNat 32 (l.val / 16) := by
  have key : ∀ l : Fin 128, k0_pay1 (ix2 (0 : Fin 256) l) = BitVec.ofNat 32 (l.val / 16) := by decide +kernel
  exact key l

/-- Moved by `8 q`, the lane's number is `8 q + l / 16`: never negative, never 128 or more. -/
theorem columns_apply (q : Fin 16) (n : Fin 256) (l : Fin 128) :
    (columns (BitVec.ofNat 32 (8 * q.val)) (ix2 n l)).toNat = 8 * q.val + l.val / 16 := by
  have key : ∀ (q : Fin 16) (d : Fin 8),
      (Scalar.select (IntOp.cmpi .slt (IntOp.addi (BitVec.ofNat 32 d.val) (BitVec.ofNat 32 (8 * q.val))) 0#32)
        (IntOp.addi (IntOp.addi (BitVec.ofNat 32 d.val) (BitVec.ofNat 32 (8 * q.val))) 128#32)
        (IntOp.addi (BitVec.ofNat 32 d.val) (BitVec.ofNat 32 (8 * q.val)))).toNat = 8 * q.val + d.val := by decide +kernel
  have h := key q ⟨l.val / 16, by omega⟩
  unfold columns
  rw [shapeCast_shapeCast]
  rw [← h, ← lane_apply n l]
  rfl

/-- The spread scales at lane `l` are those of column `8 q + l / 16`. -/
theorem spread_apply (q : Fin 16) (v : FVec Ideal S256x128 .f32) (n : Fin 256) (l : Fin 128) :
    spread (BitVec.ofNat 32 (8 * q.val)) v (ix2 n l) = v (ix2 n ⟨8 * q.val + l.val / 16, by omega⟩) := by
  unfold spread dynamicGather
  refine congrArg v (funext fun b => ?_)
  match b with
  | ⟨0, _⟩ => rfl
  | ⟨1, _⟩ =>
    refine Fin.ext ?_
    show (columns (BitVec.ofNat 32 (8 * q.val)) (ix2 n l)).toNat % 128 = 8 * q.val + l.val / 16
    rw [columns_apply]; omega

/-- The filled-up scales at a column below 12 are the scales. -/
theorem padded_apply (v : Vec Ideal S256x12 .bf16) (n : Fin 256) (c : Fin 128) (h : c.val < 12) :
    padded v (ix2 n c) = v (ix2 n ⟨c.val, h⟩) := by
  unfold padded
  exact (concatenate_pair_apply_left (t := S256x128) (s₁ := S256x12) (s₂ := S256x116) 1 _ _ _ (ix2 n c) rfl (ix2 n ⟨c.val, h⟩)
    fun b => match b with
      | ⟨0, _⟩ => rfl
      | ⟨1, _⟩ => rfl).trans rfl

/-! ## One chunk -/

/-- A weight is its code times its scale plus its minimum. -/
theorem weights_apply {s : Shape} (codes : IVec s 32) (sc mn : FVec Ideal s .bf16) (j : s.Idx) :
    weights codes sc mn j = (((codes j).toInt : ℝ) : EReal) * sc j + mn j := rfl

/-- A chunk's product with 128 columns at an index: the sum over them. -/
theorem wide_apply (a : FVec Ideal S192x128 .bf16) (w : FVec Ideal S256x128 .bf16) (r : Fin 192) (n : Fin 256) :
    matmul dot_S192x128_S256x128_S192x256_1_1_0_0_n_n none a w (constant S192x256 .f32 0x00000000#32) (ix2 r n)
      = ∑ l : Fin 128, a (ix2 r l) * w (ix2 n l) :=
  (Ideal.matmul_transposedRhs_apply (M := 192) (K := 128) (N := 256) none a w _ r n).trans (by
    rw [constant_apply, Ideal.ofBits_zero_f32, zero_add])

/-- The half chunk's product with 64 columns at an index: the sum over them. -/
theorem narrow_apply (a : FVec Ideal S192x64 .bf16) (w : FVec Ideal S256x64 .bf16) (r : Fin 192) (n : Fin 256) :
    matmul dot_S192x64_S256x64_S192x256_1_1_0_0_n_n none a w (constant S192x256 .f32 0x00000000#32) (ix2 r n)
      = ∑ l : Fin 64, a (ix2 r l) * w (ix2 n l) :=
  (Ideal.matmul_transposedRhs_apply (M := 192) (K := 64) (N := 256) none a w _ r n).trans (by
    rw [constant_apply, Ideal.ofBits_zero_f32, zero_add])

/-- A chunk adds, for each of its 128 columns, the low code's and the high code's products. -/
theorem chunk_apply (acc : FVec Ideal S192x256 .f32) (sc mn : FVec Ideal S256x128 .f32) (w : Vec Ideal S256x128 .i8)
    (a b : Vec Ideal S192x128 .bf16) (r : Fin 192) (n : Fin 256) :
    chunk acc sc mn w a b (ix2 r n) = acc (ix2 r n) + ∑ l : Fin 128,
      (a (ix2 r l) * (lowCode (w (ix2 n l)) * sc (ix2 n l) + mn (ix2 n l))
        + b (ix2 r l) * (highCode (w (ix2 n l)) * sc (ix2 n l) + mn (ix2 n l))) := by
  unfold chunk
  rw [addf_apply, addf_apply, shapeCast_self, shapeCast_self, wide_apply, wide_apply, add_assoc, ← Finset.sum_add_distrib]
  rfl

/-- The half chunk adds the same for each of its 64 columns. -/
theorem halfChunk_apply (acc : FVec Ideal S192x256 .f32) (sc mn : FVec Ideal S256x128 .f32) (w : Vec Ideal S256x64 .i8)
    (a b : Vec Ideal S192x64 .bf16) (r : Fin 192) (n : Fin 256) :
    halfChunk acc sc mn w a b (ix2 r n) = acc (ix2 r n) + ∑ l : Fin 64,
      (a (ix2 r l) * (lowCode (w (ix2 n l)) * sc (ix2 n ⟨l.val, by omega⟩) + mn (ix2 n ⟨l.val, by omega⟩))
        + b (ix2 r l) * (highCode (w (ix2 n l)) * sc (ix2 n ⟨l.val, by omega⟩) + mn (ix2 n ⟨l.val, by omega⟩))) := by
  unfold halfChunk
  rw [addf_apply, addf_apply, shapeCast_self, shapeCast_self, narrow_apply, narrow_apply, add_assoc, ← Finset.sum_add_distrib]
  refine congrArg (acc (ix2 r n) + ·) (Finset.sum_congr rfl fun l _ => ?_)
  have cut : ∀ v : FVec Ideal S256x128 .f32,
      (truncf .bf16 (extractStridedSlice S256x64 ![0, 0] v slices_S256x128_o0_0_S256x64) bitsLt_bf16_f32 : FVec Ideal S256x64 .bf16)
        (ix2 n l) = v (ix2 n ⟨l.val, by omega⟩) := fun v => by
    rw [truncf_apply]
    exact extractStridedSlice_apply _ _ _ _ _ fun b => match b with
      | ⟨0, _⟩ => by simp
      | ⟨1, _⟩ => by simp
  rw [weights_apply, weights_apply, cut, cut]
  rfl

/-! ## The running sum -/

variable (x0 x1 : Vec Ideal S192x6336 .bf16) (x2 : Vec Ideal S256x6336 .i8) (x3 x4 : Vec Ideal S256x396 .bf16)

/-- The term of packed column `K` in the element of row `r` and column `n`. -/
abbrev termAt (r : Fin 192) (n : Fin 256) (K : ℕ) : EReal :=
  termN (fun K => x0 (ix2 r K)) (fun K => x1 (ix2 r K)) (fun K => x2 (ix2 n K)) (fun g => x3 (ix2 n g)) (fun g => x4 (ix2 n g)) K

/-- A load through a rectangle of whole rows reads the array's own column. -/
theorem ld_row {R C : ℕ} {e : EltTy} (X : Vec Ideal ⟨2, ![R, C]⟩ e) (o c : ℕ)
    (inb : ∀ a, (![0, o] : Fin 2 → ℕ) a + (![R, c] : Fin 2 → ℕ) a ≤ (⟨2, ![R, C]⟩ : Shape).size a) (r : Fin R) (l : Fin c)
    (h : o + l.val < C) :
    View.ld X (Rect.unit (s := ⟨2, ![R, C]⟩) ![0, o] ![R, c] inb) (ix2 r l) = X (ix2 r ⟨o + l.val, h⟩) :=
  View.ld_unit_apply_of X _ _ _ _ _ fun a => match a with
    | ⟨0, _⟩ => by simp
    | ⟨1, _⟩ => by simp

/-- After `n` chunks the running sum is the sum of the first `128 n` terms. -/
theorem upTo_apply (r : Fin 192) (n : Fin 256) : (k : ℕ) → (h : k ≤ 48) →
    upTo x0 x1 x2 x3 x4 k h (ix2 r n) = ∑ K ∈ Finset.range (128 * k), termAt x0 x1 x2 x3 x4 r n K
  | 0, _ => by
    rw [Nat.mul_zero, Finset.sum_range_zero]
    exact Ideal.ofBits_zero_f32
  | k + 1, h => by
    unfold upTo
    rw [chunk_apply, upTo_apply r n k (by omega), Nat.mul_succ, ← sum_next]
    refine congrArg (_ + ·) (Finset.sum_congr rfl fun l _ => ?_)
    have hq : k % 16 < 16 := Nat.mod_lt _ (by omega)
    have hk : 128 * k + l.val < 6336 := by omega
    have hg : ∀ v : Vec Ideal S256x396 .bf16,
        spread (BitVec.ofNat 32 (8 * (k % 16))) (extf .f32 (View.ld v (gRect k h)) bitsLt_bf16_f32 : FVec Ideal S256x128 .f32) (ix2 n l)
          = v (ix2 n ⟨(128 * k + l.val) / 16, by omega⟩) := fun v => by
      rw [spread_apply ⟨k % 16, hq⟩, extf_apply, ld_row v _ _ _ _ _ (by simp only; omega)]
      refine congrArg v (congrArg (ix2 n) (Fin.ext ?_))
      simp only; omega
    rw [hg, hg, ld_row x2 _ _ _ _ _ hk, ld_row x0 _ _ _ _ _ hk, ld_row x1 _ _ _ _ _ hk, termAt, termN_of_lt _ _ _ _ _ hk]
    rfl

/-- The last scales, filled up and spread from column `8 q`, at a lane whose column is one of the twelve. -/
theorem last_apply (q : Fin 16) (v : Vec Ideal S256x396 .bf16) (n : Fin 256) (l : Fin 128) (hc : 8 * q.val + l.val / 16 < 12)
    (g : Fin 396) (hg : g.val = 384 + (8 * q.val + l.val / 16)) :
    spread (BitVec.ofNat 32 (8 * q.val)) (padded (View.ld v gLast)) (ix2 n l) = v (ix2 n g) := by
  rw [spread_apply q, padded_apply _ _ _ hc, ld_row v _ _ _ _ _ (by simp only; omega)]
  exact congrArg v (congrArg (ix2 n) (Fin.ext (by simp only; omega)))

/-- After 49 chunks the running sum is the sum of the first 6272 terms. -/
theorem upToLast_apply (r : Fin 192) (n : Fin 256) :
    upToLast x0 x1 x2 x3 x4 (ix2 r n) = ∑ K ∈ Finset.range 6272, termAt x0 x1 x2 x3 x4 r n K := by
  unfold upToLast
  rw [chunk_apply, upTo_apply, show (6272 : ℕ) = 128 * 48 + 128 from rfl, ← sum_next]
  refine congrArg (_ + ·) (Finset.sum_congr rfl fun l _ => ?_)
  have hk : 128 * 48 + l.val < 6336 := by omega
  have hg : ∀ v : Vec Ideal S256x396 .bf16, spread 0#32 (padded (View.ld v gLast)) (ix2 n l)
      = v (ix2 n ⟨(128 * 48 + l.val) / 16, by omega⟩) := fun v =>
    last_apply 0 v n l (by simp only [Fin.val_zero]; omega) _ (by simp only [Fin.val_zero]; omega)
  rw [hg, hg, ld_row x2 _ _ _ _ _ hk, ld_row x0 _ _ _ _ _ hk, ld_row x1 _ _ _ _ _ hk, termAt, termN_of_lt _ _ _ _ _ hk]
  rfl

/-- The block's element of row `r` and column `n` is the whole sum of row `r` and row `n`. -/
theorem block_apply (r : Fin 192) (n : Fin 256) :
    block x0 x1 x2 x3 x4 (ix2 r n) = total (fun K => x0 (ix2 r K)) (fun K => x1 (ix2 r K)) (fun K => x2 (ix2 n K))
      (fun g => x3 (ix2 n g)) (fun g => x4 (ix2 n g)) := by
  unfold block
  rw [truncf_apply, halfChunk_apply, upToLast_apply, total_eq]
  refine Eq.trans ?_ (sum_next _ 6272 64)
  refine congrArg (_ + ·) (Finset.sum_congr rfl fun l _ => ?_)
  have hk : 6272 + l.val < 6336 := by omega
  have hg : ∀ v : Vec Ideal S256x396 .bf16, spread 8#32 (padded (View.ld v gLast)) (ix2 n ⟨l.val, by omega⟩)
      = v (ix2 n ⟨(6272 + l.val) / 16, by omega⟩) := fun v =>
    last_apply 1 v n _ (by simp only [Fin.val_one]; omega) _ (by simp only [Fin.val_one]; omega)
  rw [hg, hg, ld_row x2 _ _ _ _ _ hk, ld_row x0 _ _ _ _ _ hk, ld_row x1 _ _ _ _ _ hk, termN_of_lt _ _ _ _ _ hk]
  rfl

end Cert.Block

end
-- ==== Proof.Array.lean ====
/- The result array of the kernel's grid: what each of the ten points writes back into it, and what it holds in the end. -/
module

public import proofs.«01_k».proof.Proof.Gen.KernelIdeal.Frame
public import proofs.«01_k».proof.Proof.BlockValue
public import Idealize.ShloMosaic.Lib.Pipeline.ValueKit.Geometry

@[expose] public section

noncomputable section

namespace Cert.Run

open Cert.KernelIdeal Cert.KernelIdeal.Gen Cert.Sums Cert.Block
open Idealize.ShloMosaic Idealize.ShloMosaic.TcCoe Idealize.ShloMosaic.ValueIdx Idealize.SL.Sem
open Idealize.ShloMosaic.Pipeline (Window)

variable (m : (ℓ : Loc nD τ sig) → Buf (Elt Ideal) ℓ)

/-- The grid's result array: the element of row `r` and column `n` is the sum of row `r` of the two activation arrays and
    row `n` of the packed weights, scales and minima. -/
def array (c : Dev nD) : Vec Ideal S192x2432 .bf16 := fun j =>
  total (fun K => V m c main_v3 (ix2 (j 0) K)) (fun K => V m c main_v6 (ix2 (j 0) K))
    (fun K => V m c main_arg1 (ix2 (j 1) K)) (fun g => V m c main_arg2 (ix2 (j 1) g)) (fun g => V m c main_arg3 (ix2 (j 1) g))

/-- The place of each window's block, and how much of it lies inside its array: point `t`'s is the `t`-th 256 rows (of the
    result, columns), the inputs' and the result's cut alike. -/
theorem places (t : Fin cfg0.N) :
    (win0_2.index t 0 = t.val ∧ win0_2.index t 1 = 0 ∧ win0_2.xsize (grid0.coords t) 1 = 6336
      ∧ win0_2.xsize (grid0.coords t) 0 = win0_5.xsize (grid0.coords t) 1)
    ∧ (win0_3.index t 0 = t.val ∧ win0_3.index t 1 = 0 ∧ win0_3.xsize (grid0.coords t) 1 = 396
      ∧ win0_3.xsize (grid0.coords t) 0 = win0_5.xsize (grid0.coords t) 1)
    ∧ (win0_4.index t 0 = t.val ∧ win0_4.index t 1 = 0 ∧ win0_4.xsize (grid0.coords t) 1 = 396
      ∧ win0_4.xsize (grid0.coords t) 0 = win0_5.xsize (grid0.coords t) 1)
    ∧ (win0_5.index t 0 = 0 ∧ win0_5.index t 1 = t.val ∧ win0_5.xsize (grid0.coords t) 0 = 192)
    ∧ (win0_0.index t 0 = 0 ∧ win0_0.index t 1 = 0) ∧ (win0_1.index t 0 = 0 ∧ win0_1.index t 1 = 0)
    ∧ t.val * 256 + win0_5.xsize (grid0.coords t) 1 ≤ 2432 ∧ win0_5.xsize (grid0.coords t) 1 ≤ 256 := by
  rcases fin_N0 t with rfl | rfl | rfl | rfl | rfl | rfl | rfl | rfl | rfl | rfl <;> decide +kernel

/-- The activation windows' block is the whole array at every point. -/
theorem whole_0 (f : Vec Ideal S192x6336 .bf16) (t : Fin cfg0.N) (r : Fin 192) (K : Fin 6336) :
    (win0_0.blk t).view.read (Elt Ideal) f (ix2 r K) = f (ix2 r K) := by
  obtain ⟨-, -, -, -, ⟨e0, e1⟩, -⟩ := places t
  refine congrArg f (funext fun a => Fin.ext ?_)
  match a with
  | ⟨0, _⟩ => refine (Window.rect_emb_val win0_0 t _ 0).trans ?_; rw [e0, Nat.zero_mul]; exact Nat.zero_add _
  | ⟨1, _⟩ => refine (Window.rect_emb_val win0_0 t _ 1).trans ?_; rw [e1, Nat.zero_mul]; exact Nat.zero_add _
/-- The same of the second activation window. -/
theorem whole_1 (f : Vec Ideal S192x6336 .bf16) (t : Fin cfg0.N) (r : Fin 192) (K : Fin 6336) :
    (win0_1.blk t).view.read (Elt Ideal) f (ix2 r K) = f (ix2 r K) := by
  obtain ⟨-, -, -, -, -, ⟨e0, e1⟩, -⟩ := places t
  refine congrArg f (funext fun a => Fin.ext ?_)
  match a with
  | ⟨0, _⟩ => refine (Window.rect_emb_val win0_1 t _ 0).trans ?_; rw [e0, Nat.zero_mul]; exact Nat.zero_add _
  | ⟨1, _⟩ => refine (Window.rect_emb_val win0_1 t _ 1).trans ?_; rw [e1, Nat.zero_mul]; exact Nat.zero_add _

/-- A block at index zero starts at its array's start. -/
theorem at_zero {i s x : ℕ} (h : i = 0) : i * s + x = x := by rw [h, Nat.zero_mul, Nat.zero_add]

/-- A row of the packed weights' block inside the array is the array's row, whatever fills the block past the array's end. -/
theorem row_2 (f : Vec Ideal S2432x6336 .i8) (t : Fin cfg0.N) (d : Vec Ideal S256x6336 .i8) (n : Fin 256) (K : Fin 6336)
    (h : n.val < win0_5.xsize (grid0.coords t) 1) (N : Fin 2432) (hN : N.val = t.val * 256 + n.val) :
    win0_2.fill (grid0.coords t) d ((win0_2.blk t).view.read (Elt Ideal) f) (ix2 n K) = f (ix2 N K) := by
  obtain ⟨⟨e0, e1, s1, s0⟩, -⟩ := places t
  have hm : win0_2.moved (grid0.coords t) (ix2 n K) = true := (win0_2.moved_iff _ _).mpr fun a => match a with
    | ⟨0, _⟩ => lt_of_lt_of_eq h s0.symm
    | ⟨1, _⟩ => lt_of_lt_of_eq K.isLt s1.symm
  clear s1 s0
  unfold Window.fill
  refine (dif_pos hm).trans (congrArg f (funext fun a => Fin.ext ?_))
  match a with
  | ⟨0, _⟩ => refine (Window.rect_emb_val win0_2 t _ 0).trans ?_; rw [e0]; exact hN.symm
  | ⟨1, _⟩ => exact (Window.rect_emb_val win0_2 t _ 1).trans (at_zero e1)

/-- The same of the scales' block. -/
theorem row_3 (f : Vec Ideal S2432x396 .bf16) (t : Fin cfg0.N) (d : Vec Ideal S256x396 .bf16) (n : Fin 256) (g : Fin 396)
    (h : n.val < win0_5.xsize (grid0.coords t) 1) (N : Fin 2432) (hN : N.val = t.val * 256 + n.val) :
    win0_3.fill (grid0.coords t) d ((win0_3.blk t).view.read (Elt Ideal) f) (ix2 n g) = f (ix2 N g) := by
  obtain ⟨-, ⟨e0, e1, s1, s0⟩, -⟩ := places t
  have hm : win0_3.moved (grid0.coords t) (ix2 n g) = true := (win0_3.moved_iff _ _).mpr fun a => match a with
    | ⟨0, _⟩ => lt_of_lt_of_eq h s0.symm
    | ⟨1, _⟩ => lt_of_lt_of_eq g.isLt s1.symm
  clear s1 s0
  unfold Window.fill
  refine (dif_pos hm).trans (congrArg f (funext fun a => Fin.ext ?_))
  match a with
  | ⟨0, _⟩ => refine (Window.rect_emb_val win0_3 t _ 0).trans ?_; rw [e0]; exact hN.symm
  | ⟨1, _⟩ => exact (Window.rect_emb_val win0_3 t _ 1).trans (at_zero e1)

/-- The same of the minima's block. -/
theorem row_4 (f : Vec Ideal S2432x396 .bf16) (t : Fin cfg0.N) (d : Vec Ideal S256x396 .bf16) (n : Fin 256) (g : Fin 396)
    (h : n.val < win0_5.xsize (grid0.coords t) 1) (N : Fin 2432) (hN : N.val = t.val * 256 + n.val) :
    win0_4.fill (grid0.coords t) d ((win0_4.blk t).view.read (Elt Ideal) f) (ix2 n g) = f (ix2 N g) := by
  obtain ⟨-, -, ⟨e0, e1, s1, s0⟩, -⟩ := places t
  have hm : win0_4.moved (grid0.coords t) (ix2 n g) = true := (win0_4.moved_iff _ _).mpr fun a => match a with
    | ⟨0, _⟩ => lt_of_lt_of_eq h s0.symm
    | ⟨1, _⟩ => lt_of_lt_of_eq g.isLt s1.symm
  clear s1 s0
  unfold Window.fill
  refine (dif_pos hm).trans (congrArg f (funext fun a => Fin.ext ?_))
  match a with
  | ⟨0, _⟩ => refine (Window.rect_emb_val win0_4 t _ 0).trans ?_; rw [e0]; exact hN.symm
  | ⟨1, _⟩ => exact (Window.rect_emb_val win0_4 t _ 1).trans (at_zero e1)

/-- What the body computes at point `t` from the blocks it is given there, the overhanging ones filled out with `d2`,
    `d3` and `d4` past their arrays' ends. -/
def computed (c : Dev nD) (t : Fin cfg0.N) (d2 : Vec Ideal S256x6336 .i8) (d3 d4 : Vec Ideal S256x396 .bf16) :
    Vec Ideal S192x256 .bf16 :=
  block (iblk m c 0 t) (iblk m c 1 t) (win0_2.fill (grid0.coords t) d2 (iblk m c 2 t))
    (win0_3.fill (grid0.coords t) d3 (iblk m c 3 t)) (win0_4.fill (grid0.coords t) d4 (iblk m c 4 t))

/-- In the columns inside the result array it is the array's, whatever `d2`, `d3` and `d4` are. -/
theorem computed_inside (c : Dev nD) (t : Fin cfg0.N) (d2 : Vec Ideal S256x6336 .i8) (d3 d4 : Vec Ideal S256x396 .bf16)
    (y : (win0_5.xblock (grid0.coords t)).Idx) :
    computed m c t d2 d3 d4 (win0_5.xinj (grid0.coords t) y) = array m c ((win0_5.blk t).view.emb y) := by
  obtain ⟨-, -, -, ⟨e0, e1, s0⟩, -, -, hle, h256⟩ := places t
  have h0 : (y 0).val < 192 := lt_of_lt_of_eq (y 0).isLt s0
  have h1 : (y 1).val < win0_5.xsize (grid0.coords t) 1 := (y 1).isLt
  have hx : win0_5.xinj (grid0.coords t) y = ix2 (⟨(y 0).val, h0⟩ : Fin 192) (⟨(y 1).val, by omega⟩ : Fin 256) :=
    funext fun a => match a with | ⟨0, _⟩ => rfl | ⟨1, _⟩ => rfl
  have he : (win0_5.blk t).view.emb y
      = ix2 (⟨(y 0).val, h0⟩ : Fin 192) (⟨t.val * 256 + (y 1).val, by omega⟩ : Fin 2432) := funext fun a => Fin.ext <| by
    match a with
    | ⟨0, _⟩ => refine (Window.rect_emb_val win0_5 t _ 0).trans ?_; rw [e0, Nat.zero_mul]; exact Nat.zero_add _
    | ⟨1, _⟩ => refine (Window.rect_emb_val win0_5 t _ 1).trans ?_; rw [e1]; rfl
  rw [hx, he]
  unfold computed
  rw [block_apply]
  have r0 : ∀ K, iblk m c 0 t (ix2 (⟨(y 0).val, h0⟩ : Fin 192) K) = V m c main_v3 (ix2 (⟨(y 0).val, h0⟩ : Fin 192) K) :=
    whole_0 (V m c main_v3) t _
  have r1 : ∀ K, iblk m c 1 t (ix2 (⟨(y 0).val, h0⟩ : Fin 192) K) = V m c main_v6 (ix2 (⟨(y 0).val, h0⟩ : Fin 192) K) :=
    whole_1 (V m c main_v6) t _
  have r2 := fun K => row_2 (V m c main_arg1) t d2 ⟨(y 1).val, by omega⟩ K h1 ⟨t.val * 256 + (y 1).val, by omega⟩ rfl
  have r3 := fun g => row_3 (V m c main_arg2) t d3 ⟨(y 1).val, by omega⟩ g h1 ⟨t.val * 256 + (y 1).val, by omega⟩ rfl
  have r4 := fun g => row_4 (V m c main_arg3) t d4 ⟨(y 1).val, by omega⟩ g h1 ⟨t.val * 256 + (y 1).val, by omega⟩ rfl
  have congr : ∀ {a a' b b' : Fin 6336 → EReal} {w w' : Fin 6336 → BitVec 8} {s s' n n' : Fin 396 → EReal},
      a = a' → b = b' → w = w' → s = s' → n = n' → total a b w s n = total a' b' w' s' n' := by
    rintro _ _ _ _ _ _ _ _ _ _ rfl rfl rfl rfl rfl; rfl
  exact congr (funext r0) (funext r1) (funext r2) (funext r3) (funext r4)

end Cert.Run

end
-- ==== Proof.Run.lean ====
/- The run of the kernel's program at exact arithmetic: it terminates with the result array of `Cert.Run.array`.

   The last of the grid's ten blocks overhangs its arrays, so the words of a staging buffer past the array's end are
   unknown. They do not reach the columns of the result inside its array, which are all that is written back. -/
module

public import proofs.«01_k».proof.Proof.BodyIdeal
public import proofs.«01_k».proof.Proof.Array
public import Idealize.ShloMosaic.Lib.Pipeline.FrameSuffix
public import Idealize.ShloMosaic.Lib.Tactic

@[expose] public section

set_option maxRecDepth 16384

noncomputable section

namespace Cert.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The proof data: the arrays as the region finds them; after the body each input's buffer still holds its block, past
    the array's end a filler, and the result's what the body computes from them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) default (iblk m c 2 t)
    | ⟨3, _⟩ => win0_3.fill (grid0.coords t) default (iblk m c 3 t)
    | ⟨4, _⟩ => win0_4.fill (grid0.coords t) default (iblk m c 4 t)
    | ⟨5, _⟩ => computed m c t default default default
  Φ _ := Pipeline.ΦA spec0 c
  q _ := fullShare
  owed _ := 0

/-- Each window's array starts as the region finds it. -/
theorem A_eq (c : Dev nD) (w : Fin cfg0.W) : (dats m 0 c).A w = V m c (Pipeline.arrRef spec0 w) := by
  dsimp only [dats]

/-- What the body leaves in each input's buffer. -/
theorem after_0 (c : Dev nD) (t : Fin cfg0.N) : (dats m 0 c).after 0 t = iblk m c 0 t := by dsimp only [dats]
/-- The same of the second activation window. -/
theorem after_1 (c : Dev nD) (t : Fin cfg0.N) : (dats m 0 c).after 1 t = iblk m c 1 t := by dsimp only [dats]
/-- Inside its array the buffer of the packed weights keeps its block. -/
theorem cut_after_2 (c : Dev nD) (t : Fin cfg0.N) :
    win0_2.cut (grid0.coords t) ((dats m 0 c).after 2 t) = iblk m c 2 t := win0_2.cut_fill _ _ _
/-- The same of the scales. -/
theorem cut_after_3 (c : Dev nD) (t : Fin cfg0.N) :
    win0_3.cut (grid0.coords t) ((dats m 0 c).after 3 t) = iblk m c 3 t := win0_3.cut_fill _ _ _
/-- The same of the minima. -/
theorem cut_after_4 (c : Dev nD) (t : Fin cfg0.N) :
    win0_4.cut (grid0.coords t) ((dats m 0 c).after 4 t) = iblk m c 4 t := win0_4.cut_fill _ _ _

/-- After the body the result's buffer holds what the body computes. -/
theorem after_5 (c : Dev nD) (t : Fin cfg0.N) : (dats m 0 c).after 5 t = computed m c t default default default := by
  dsimp only [dats]

/-- The fillers do not reach the part of the result that is written back. -/
theorem cut_computed (c : Dev nD) (t : Fin cfg0.N) (d2 : Vec Ideal S256x6336 .i8) (d3 d4 : Vec Ideal S256x396 .bf16) :
    win0_5.cut (grid0.coords t) (computed m c t d2 d3 d4) = win0_5.cut (grid0.coords t) (computed m c t default default default) :=
  funext fun y => (computed_inside m c t d2 d3 d4 y).trans (computed_inside m c t default default default y).symm

/-- What the body finds in each input's buffer: its block, an overhanging one filled out with unknown words `d`. -/
theorem before_0 (c : Dev nD) (t : Fin cfg0.N) (d) : (dats m 0 c).before 0 t d = iblk m c 0 t :=
  before0_0_of m (dats m 0 c) (A_eq m c 0) (after_0 m c) t d
/-- The same of the second activation window. -/
theorem before_1 (c : Dev nD) (t : Fin cfg0.N) (d) : (dats m 0 c).before 1 t d = iblk m c 1 t :=
  before0_1_of m (dats m 0 c) (A_eq m c 1) (after_1 m c) t d
/-- The packed weights' block, past the array's end whatever was there. -/
theorem before_2 (c : Dev nD) (t : Fin cfg0.N) (d) :
    (dats m 0 c).before 2 t d = win0_2.fill (grid0.coords t) d (iblk m c 2 t) := by
  unfold Dat.before; rw [if_pos (fetch0_2 t)]; rfl
/-- The same of the scales. -/
theorem before_3 (c : Dev nD) (t : Fin cfg0.N) (d) :
    (dats m 0 c).before 3 t d = win0_3.fill (grid0.coords t) d (iblk m c 3 t) := by
  unfold Dat.before; rw [if_pos (fetch0_3 t)]; rfl
/-- The same of the minima. -/
theorem before_4 (c : Dev nD) (t : Fin cfg0.N) (d) :
    (dats m 0 c).before 4 t d = win0_4.fill (grid0.coords t) d (iblk m c 4 t) := by
  unfold Dat.before; rw [if_pos (fetch0_4 t)]; rfl

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) :
    BodyObligationLoose (dats m 0 c) (defs₀ (F := Ideal)) Variants.none () Set.univ := fun t => by
  rw [bigSep_W0, bigSep_W0, defs₀_row]
  rw [show (dats m 0 c).Φ t.succ = (dats m 0 c).Φ t.castSucc from rfl,
    show (dats m 0 c).owesAt () t.succ = (dats m 0 c).owesAt () t.castSucc from rfl]
  simp only [before_0 m c t, before_1 m c t, before_2 m c t, before_3 m c t, before_4 m c t]
  change iprop((dats m 0 c).Φ t.castSucc ∗ (dats m 0 c).owesAt () t.castSucc
      ∗ (∃ d, owns (c : Thread nD τ) (st0_0 t) fullShare (iblk m c 0 t))
      ∗ (∃ d, owns (c : Thread nD τ) (st0_1 t) fullShare (iblk m c 1 t))
      ∗ (∃ d, owns (c : Thread nD τ) (st0_2 t) fullShare (win0_2.fill (grid0.coords t) d (iblk m c 2 t)))
      ∗ (∃ d, owns (c : Thread nD τ) (st0_3 t) fullShare (win0_3.fill (grid0.coords t) d (iblk m c 3 t)))
      ∗ (∃ d, owns (c : Thread nD τ) (st0_4 t) fullShare (win0_4.fill (grid0.coords t) d (iblk m c 4 t)))
      ∗ (∃ d, owns (c : Thread nD τ) (st0_5 t) fullShare ((dats m 0 c).before 5 t d)))
    ⊢ wp frame (wpE (defs₀ (F := Ideal)) Variants.none c none) Set.univ (bodyAt0 t) fun _ =>
      iprop((dats m 0 c).Φ t.castSucc ∗ (dats m 0 c).owesAt () t.castSucc
      ∗ owns (c : Thread nD τ) (st0_0 t) fullShare ((dats m 0 c).after 0 t)
      ∗ owns (c : Thread nD τ) (st0_1 t) fullShare ((dats m 0 c).after 1 t)
      ∗ (∃ d, owns (c : Thread nD τ) (st0_2 t) fullShare (win0_2.fill (grid0.coords t) d (win0_2.cut (grid0.coords t) ((dats m 0 c).after 2 t))))
      ∗ (∃ d, owns (c : Thread nD τ) (st0_3 t) fullShare (win0_3.fill (grid0.coords t) d (win0_3.cut (grid0.coords t) ((dats m 0 c).after 3 t))))
      ∗ (∃ d, owns (c : Thread nD τ) (st0_4 t) fullShare (win0_4.fill (grid0.coords t) d (win0_4.cut (grid0.coords t) ((dats m 0 c).after 4 t))))
      ∗ (∃ d, owns (c : Thread nD τ) (st0_5 t) fullShare (win0_5.fill (grid0.coords t) d (win0_5.cut (grid0.coords t) ((dats m 0 c).after 5 t)))))
  rw [after_0, after_1, cut_after_2, cut_after_3, cut_after_4, after_5]
  unfold bodyAt0
  iintro ⟨HΦ, Ho, ⟨%d0, H0⟩, ⟨%d1, H1⟩, ⟨%d2, H2⟩, ⟨%d3, H3⟩, ⟨%d4, H4⟩, ⟨%d5, H5⟩⟩
  iapply (Cert.BodyIdeal.sound_kernel c Set.univ (grid0.coords t) _ _ _ _ _ _ _ _ _ _ _ _ (iblk m c 0 t) (iblk m c 1 t)
    (win0_2.fill (grid0.coords t) d2 (iblk m c 2 t)) (win0_3.fill (grid0.coords t) d3 (iblk m c 3 t))
    (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexists d2; iexact H2
  isplitl [H3]; · iexists d3; iexact H3
  isplitl [H4]; · iexists d4; iexact H4
  iexists (computed m c t d2 d3 d4)
  rw [← cut_computed m c t d2 d3 d4, win0_5.fill_cut]
  iexact H5

set_option backward.isDefEq.respectTransparency.types false in
set_option maxHeartbeats 800000 in
/-- The run of @main from any memory with zero counters: it terminates, every array ends at what the write-backs leave
    in it, the buffers beside them at what the host lines after the region leave, and every counter at zero. -/
theorem run_main : θ_run defs (onTc (τ := τ) (main (F := Ideal))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The grid's result array after the last write-back. -/
theorem final_array (c : Dev nD) : (dats m 0 c).arrAt 5 cfg0.N = array m c := by
  refine (dats m 0 c).arrAt_eq_of_covers 5 _ (by decide +kernel) fun t _ y => ?_
  rw [after_5]
  exact computed_inside m c t default default default y

end Cert.Run

end
-- ==== Proof.Result.lean ====
/- The kernel's result at exact arithmetic, as a function of the arguments of @main. -/
module

public import proofs.«01_k».proof.Proof.Run

@[expose] public section

noncomputable section

namespace Cert.Run

open Cert.KernelIdeal Cert.KernelIdeal.Gen Cert.Sums
open Idealize.ShloMosaic Idealize.ShloMosaic.TcCoe Idealize.ShloMosaic.ValueIdx Idealize.SL.Sem

/-- A half `h` of every group of 32 activations, cut out and laid in one row, read at an index. -/
theorem half_apply (x : Vec Ideal S192x1x12672 .bf16) (h : Fin 2) (hs : S192x396x2x16.Slices ![0, 0, h.val, 0] S192x396x1x16)
    (r : Fin 192) (K : Fin 6336) (k : Fin 12672) (hk : k.val = K.val / 16 * 32 + h.val * 16 + K.val % 16) :
    shapeCast S192x6336 (shapeCast S192x396x16 (extractStridedSlice S192x396x1x16 ![0, 0, h.val, 0]
        (shapeCast S192x396x2x16 x shapeCasts_S192x1x12672_S192x396x2x16) hs)
        shapeCasts_S192x396x1x16_S192x396x16) shapeCasts_S192x396x16_S192x6336 (ix2 r K)
      = x (ix3 r (0 : Fin 1) k) := by
  have hd : K.val / 16 < 396 := by omega
  have hm : K.val % 16 < 16 := by omega
  refine (shapeCast_apply _ _ _ (ix3 r (⟨K.val / 16, hd⟩ : Fin 396) (⟨K.val % 16, hm⟩ : Fin 16)) ?_).trans <|
    (shapeCast_apply _ _ _ (ix4 r (⟨K.val / 16, hd⟩ : Fin 396) (0 : Fin 1) (⟨K.val % 16, hm⟩ : Fin 16)) ?_).trans <|
    (extractStridedSlice_apply _ _ _ _ (ix4 r (⟨K.val / 16, hd⟩ : Fin 396) h (⟨K.val % 16, hm⟩ : Fin 16)) ?_).trans
    (shapeCast_apply _ _ _ (ix3 r (0 : Fin 1) k) ?_)
  · rw [Shape.rowMajor_val_three, Shape.rowMajor_val_two]
    show (r.val * 396 + K.val / 16) * 16 + K.val % 16 = r.val * 6336 + K.val
    omega
  · rw [Shape.rowMajor_val_four, Shape.rowMajor_val_three]
    show ((r.val * 396 + K.val / 16) * 1 + 0) * 16 + K.val % 16 = (r.val * 396 + K.val / 16) * 16 + K.val % 16
    omega
  · intro a
    match a with
    | ⟨0, _⟩ => exact (Nat.zero_add _).symm
    | ⟨1, _⟩ => exact (Nat.zero_add _).symm
    | ⟨2, _⟩ => rfl
    | ⟨3, _⟩ => exact (Nat.zero_add _).symm
  · rw [Shape.rowMajor_val_three, Shape.rowMajor_val_four]
    show (r.val * 1 + 0) * 12672 + k.val = ((r.val * 396 + K.val / 16) * 2 + h.val) * 16 + K.val % 16
    omega

variable (m : (ℓ : Loc nD τ sig) → Buf (Elt Ideal) ℓ)

/-- The grid's first activation array holds the first half of every group. -/
theorem low_half (c : Dev nD) (r : Fin 192) (K : Fin 6336) :
    V m c main_v3 (ix2 r K) = m ((c : Thread nD τ).loc main_arg0) (ix3 r (0 : Fin 1) (lowPlace K)) := by
  refine Eq.trans (congrFun (?_ : V m c main_v3 = _) _) (half_apply (m ((c : Thread nD τ).loc main_arg0)) 0
    slices_S192x396x2x16_S192x396x1x16_0_0_0_0 r K (lowPlace K) (by show _ = K.val / 16 * 32 + 0 * 16 + K.val % 16; simp [lowPlace]))
  unfold V V0
  simp only [hostOps0, List.flatten_cons, List.flatten_nil, List.append_nil]
  after_results <;> rfl

/-- Its second holds the second half. -/
theorem high_half (c : Dev nD) (r : Fin 192) (K : Fin 6336) :
    V m c main_v6 (ix2 r K) = m ((c : Thread nD τ).loc main_arg0) (ix3 r (0 : Fin 1) (highPlace K)) := by
  refine Eq.trans (congrFun (?_ : V m c main_v6 = _) _) (half_apply (m ((c : Thread nD τ).loc main_arg0)) 1
    slices_S192x396x2x16_S192x396x1x16_0_0_1_0 r K (highPlace K) (by show _ = K.val / 16 * 32 + 1 * 16 + K.val % 16; simp [highPlace]))
  unfold V V0
  simp only [hostOps0, List.flatten_cons, List.flatten_nil, List.append_nil]
  after_results <;> rfl

/-- The grid's result array as a function of the arguments of @main. -/
theorem array_apply (c : Dev nD) (r : Fin 192) (n : Fin 2432) :
    array m c (ix2 r n) = element (fun k => m ((c : Thread nD τ).loc main_arg0) (ix3 r (0 : Fin 1) k))
      (fun K => m ((c : Thread nD τ).loc main_arg1) (ix2 n K)) (fun g => m ((c : Thread nD τ).loc main_arg2) (ix2 n g))
      (fun g => m ((c : Thread nD τ).loc main_arg3) (ix2 n g)) := by
  have h0 : (fun K => V m c main_v3 (ix2 r K)) = fun K => m ((c : Thread nD τ).loc main_arg0) (ix3 r (0 : Fin 1) (lowPlace K)) :=
    funext (low_half m c r)
  have h1 : (fun K => V m c main_v6 (ix2 r K)) = fun K => m ((c : Thread nD τ).loc main_arg0) (ix3 r (0 : Fin 1) (highPlace K)) :=
    funext (high_half m c r)
  show total (fun K => V m c main_v3 (ix2 r K)) (fun K => V m c main_v6 (ix2 r K))
    (fun K => V m c main_arg1 (ix2 n K)) (fun g => V m c main_arg2 (ix2 n g)) (fun g => V m c main_arg3 (ix2 n g)) = _
  rw [h0, h1, V_main_arg1 m c, V_main_arg2 m c, V_main_arg3 m c]
  rfl

/-- The kernel's result: the grid's result array, its axis of size one put back. -/
def result (c : Dev nD) : Vec Ideal S192x1x2432 .bf16 := shapeCast S192x1x2432 (array m c) shapeCasts_S192x2432_S192x1x2432

/-- It read at an index. -/
theorem result_apply (c : Dev nD) (r : Fin 192) (n : Fin 2432) :
    result m c (ix3 r (0 : Fin 1) n) = element (fun k => m ((c : Thread nD τ).loc main_arg0) (ix3 r (0 : Fin 1) k))
      (fun K => m ((c : Thread nD τ).loc main_arg1) (ix2 n K)) (fun g => m ((c : Thread nD τ).loc main_arg2) (ix2 n g))
      (fun g => m ((c : Thread nD τ).loc main_arg3) (ix2 n g)) := by
  unfold result
  refine (shapeCast_apply _ _ _ (ix2 r n) ?_).trans (array_apply m c r n)
  rw [Shape.rowMajor_val_two, Shape.rowMajor_val_three]
  show r.val * 2432 + n.val = (r.val * 1 + 0) * 2432 + n.val
  omega

/-- The host line after the grid leaves the result in its buffer. -/
theorem tail_result (c : Dev nD) :
    Pipeline.afterTail₀ cfgs (dats m) 0 (V0 m) [hostOps1] c main_v8 = result m c := by
  unfold Pipeline.afterTail₀
  simp only [hostOps1, List.flatten_cons, List.flatten_nil, List.append_nil, StableHlo.after_cons, StableHlo.after_nil]
  rw [StableHlo.reshape_result]
  rw [show Pipeline.withArrays spec0 c (V0 m c) (fun w => (dats m 0 c).arrAt w cfg0.N) (Proc.devRef .tc main_v7) = array m c from
    (Pipeline.withArrays_arr spec0 launch0.win.arr_inj c (V0 m c) _ 5).trans (final_array m c)]
  rfl

variable (ρ : Dev nD → PrngReg)

/-- Every run of @main ends with the result in its buffer, the arguments as they were and every counter at zero. -/
theorem run : θ_run defs (onTc (τ := τ) (main (F := Ideal))) ⟨m, fun _ => 0, ρ⟩ (fun r =>
    (∀ c : Dev nD, r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c =>
    ⟨((h.1 c).2 main_v8 (Pipeline.mem_restRefs_of main_v8 (by decide) (by decide))).trans (tail_result m c),
      ((h.1 c).2 main_arg0 (Pipeline.mem_restRefs_of main_arg0 (by decide) (by decide))).trans (W_main_arg0 m (dats m) c),
      ((h.1 c).1 2).trans (((dats m 0 c).arrAt_in 2 rfl _).trans ((A_eq m c 2).trans (V_main_arg1 m c))),
      ((h.1 c).1 3).trans (((dats m 0 c).arrAt_in 3 rfl _).trans ((A_eq m c 3).trans (V_main_arg2 m c))),
      ((h.1 c).1 4).trans (((dats m 0 c).arrAt_in 4 rfl _).trans ((A_eq m c 4).trans (V_main_arg3 m c)))⟩, h.2⟩)
    (run_main m ρ)

end Cert.Run

end
-- ==== Proof.Reference.lean ====
/- What the reference computes, at exact arithmetic: every element of its result as the sum of `Cert.Sums.element`. -/
module

public import proofs.«01_k».proof.Proof.Gen.ReferenceIdeal.Read
public import proofs.«01_k».proof.Proof.Sums
public import Idealize.ShloMosaic.PureOps.Ideal.Laws
public import Idealize.ShloMosaic.Lib.TwoAxisContraction

@[expose] public section

noncomputable section

namespace Cert.RefValue

open Cert.ReferenceIdeal Cert.ReferenceIdeal.Gen Cert.ReferenceIdeal.Read Cert.Sums
open Idealize.ShloMosaic Idealize.ShloMosaic.ValueIdx
open scoped BigOperators

/-- The reference's product over the groups and the 16 columns of each, read at an index. -/
theorem product_apply (l : Vec Ideal S192x1x396x16 .bf16) (w : Vec Ideal S2432x396x16 .bf16) (r : Fin 192) (n : Fin 2432) :
    (Host.dotGeneral (φ₁ := .bf16) (φ₂ := .bf16) dot_S192x1x396x16_S2432x396x16_S192x1x2432_23_12_01_0_n_n none l w : FVec Ideal S192x1x2432 .f32)
        (ix3 r (0 : Fin 1) n)
      = ∑ g : Fin 396, ∑ j : Fin 16, l (ix4 r (0 : Fin 1) g j) * w (ix3 n g j) := by
  let D := dot_S192x1x396x16_S2432x396x16_S192x1x2432_23_12_01_0_n_n
  have hr : D.contr.rank = 2 := rfl
  have c0 : D.contr.size ⟨0, by rw [hr]; omega⟩ = 396 := rfl
  have c1 : D.contr.size ⟨1, by rw [hr]; omega⟩ = 16 := rfl
  simp only [Host.dotGeneral]
  rw [Ideal.dotGeneral_apply, sum_contr2 D 396 16 hr c0 c1]
  refine Finset.sum_congr rfl fun g _ => Finset.sum_congr rfl fun j _ => ?_
  have h0 := contrEquiv2_symm_val0 D 396 16 hr c0 c1 (g, j)
  have h1 := contrEquiv2_symm_val1 D 396 16 hr c0 c1 (g, j)
  refine congrArg₂ (· * ·) (congrArg l (funext fun a => Fin.ext ?_)) (congrArg w (funext fun a => Fin.ext ?_))
  · match a with
    | ⟨0, _⟩ => rfl
    | ⟨1, _⟩ => rfl
    | ⟨2, _⟩ => exact h0
    | ⟨3, _⟩ => exact h1
  · match a with
    | ⟨0, _⟩ => rfl
    | ⟨1, _⟩ => exact h0
    | ⟨2, _⟩ => exact h1

variable (x : Vec Ideal S192x1x12672 .bf16) (w : Vec Ideal S2432x6336 .i8) (s m : Vec Ideal S2432x396 .bf16)

/-- The activations regrouped by 32, read at an index. -/
theorem groups_apply (r : Fin 192) (g : Fin 396) (j : Fin 32) (k : Fin 12672) (h : k.val = g.val * 32 + j.val) :
    val_main_v20 (F := Ideal) x (ix4 r (0 : Fin 1) g j) = x (ix3 r (0 : Fin 1) k) := by
  unfold val_main_v20
  refine shapeCast_apply x _ _ _ ?_
  rw [Shape.rowMajor_val_three, Shape.rowMajor_val_four]
  show (r.val * 1 + 0) * 12672 + k.val = ((r.val * 1 + 0) * 396 + g.val) * 32 + j.val
  omega

/-- The codes regrouped by 16, read at an index. -/
theorem codes_apply (n : Fin 2432) (g : Fin 396) (j : Fin 16) :
    val_main_v1 (F := Ideal) w (ix3 n g j) = (w (ix2 n (column g j))).setWidth 32 := by
  unfold val_main_v1
  refine (shapeCast_apply _ _ _ (ix2 n (column g j)) ?_).trans rfl
  rw [Shape.rowMajor_val_two, Shape.rowMajor_val_three]
  show n.val * 6336 + (g.val * 16 + j.val) = (n.val * 396 + g.val) * 16 + j.val
  omega

/-- A weight of the first half of a group. -/
theorem lowWeight_apply (n : Fin 2432) (g : Fin 396) (j : Fin 16) :
    val_main_v10 (F := Ideal) w s m (ix3 n g j) = lowCode (w (ix2 n (column g j))) * s (ix2 n g) + m (ix2 n g) := by
  have e : val_main_v3 (F := Ideal) w (ix3 n g j) = IntOp.andi ((w (ix2 n (column g j))).setWidth 32) 15#32 := by
    rw [val_main_v3_apply, codes_apply]; rfl
  rw [val_main_v10_apply, val_main_v7_apply, val_main_v4_apply, e, val_main_v6_apply, val_main_v5_apply, val_main_v9_apply,
    val_main_v8_apply]
  have es : idx_main_v5 (idx_main_v6 (ix3 n g j)) = ix2 n g := funext fun a => match a with | ⟨0, _⟩ => rfl | ⟨1, _⟩ => rfl
  have em : idx_main_v8 (idx_main_v9 (ix3 n g j)) = ix2 n g := funext fun a => match a with | ⟨0, _⟩ => rfl | ⟨1, _⟩ => rfl
  rw [es, em]
  rfl

/-- A weight of the second half of a group. -/
theorem highWeight_apply (n : Fin 2432) (g : Fin 396) (j : Fin 16) :
    val_main_v19 (F := Ideal) w s m (ix3 n g j) = highCode (w (ix2 n (column g j))) * s (ix2 n g) + m (ix2 n g) := by
  have e : val_main_v12 (F := Ideal) w (ix3 n g j) = IntOp.shrsi .vector ((w (ix2 n (column g j))).setWidth 32) 4#32 := by
    rw [val_main_v12_apply, codes_apply]
    show IntOp.shrsi .host _ 4#32 = _
    simp [IntOp.shrsi, IntOp.cornerWord]
  rw [val_main_v19_apply, val_main_v16_apply, val_main_v13_apply, e, val_main_v15_apply, val_main_v14_apply,
    val_main_v18_apply, val_main_v17_apply]
  have es : idx_main_v14 (idx_main_v15 (ix3 n g j)) = ix2 n g := funext fun a => match a with | ⟨0, _⟩ => rfl | ⟨1, _⟩ => rfl
  have em : idx_main_v17 (idx_main_v18 (ix3 n g j)) = ix2 n g := funext fun a => match a with | ⟨0, _⟩ => rfl | ⟨1, _⟩ => rfl
  rw [es, em]
  rfl

/-- An activation of the first half of a group. -/
theorem low_apply (r : Fin 192) (g : Fin 396) (j : Fin 16) :
    val_main_v21 (F := Ideal) x (ix4 r (0 : Fin 1) g j) = x (ix3 r (0 : Fin 1) (lowPlace (column g j))) := by
  rw [val_main_v21_apply]
  refine Eq.trans (congrArg _ (?_ : _ = ix4 r (0 : Fin 1) g (⟨j.val, by omega⟩ : Fin 32))) (groups_apply x r g _ _ ?_)
  · funext a; match a with | ⟨0, _⟩ => rfl | ⟨1, _⟩ => rfl | ⟨2, _⟩ => rfl | ⟨3, _⟩ => rfl
  · show (g.val * 16 + j.val) / 16 * 32 + (g.val * 16 + j.val) % 16 = g.val * 32 + j.val
    omega

/-- An activation of the second half of a group. -/
theorem high_apply (r : Fin 192) (g : Fin 396) (j : Fin 16) :
    val_main_v23 (F := Ideal) x (ix4 r (0 : Fin 1) g j) = x (ix3 r (0 : Fin 1) (highPlace (column g j))) := by
  rw [val_main_v23_apply]
  refine Eq.trans (congrArg _ (?_ : _ = ix4 r (0 : Fin 1) g (⟨16 + j.val, by omega⟩ : Fin 32))) (groups_apply x r g _ _ ?_)
  · funext a; match a with | ⟨0, _⟩ => rfl | ⟨1, _⟩ => rfl | ⟨2, _⟩ => rfl | ⟨3, _⟩ => rfl
  · show (g.val * 16 + j.val) / 16 * 32 + 16 + (g.val * 16 + j.val) % 16 = g.val * 32 + (16 + j.val)
    omega

/-- The reference's result: at row `r` and column `n` the sum over row `r` of the activations and row `n` of the packed
    weights, scales and minima. -/
theorem result_apply (r : Fin 192) (n : Fin 2432) :
    val_main_v26 (F := Ideal) x w s m (ix3 r (0 : Fin 1) n)
      = element (fun k => x (ix3 r (0 : Fin 1) k)) (fun K => w (ix2 n K)) (fun g => s (ix2 n g)) (fun g => m (ix2 n g)) := by
  have hl : val_main_v22 (F := Ideal) x w s m (ix3 r (0 : Fin 1) n)
      = ∑ g : Fin 396, ∑ j : Fin 16, x (ix3 r (0 : Fin 1) (lowPlace (column g j)))
          * (lowCode (w (ix2 n (column g j))) * s (ix2 n g) + m (ix2 n g)) := by
    unfold val_main_v22
    rw [product_apply]
    exact Finset.sum_congr rfl fun g _ => Finset.sum_congr rfl fun j _ => by rw [low_apply, lowWeight_apply]
  have hh : val_main_v24 (F := Ideal) x w s m (ix3 r (0 : Fin 1) n)
      = ∑ g : Fin 396, ∑ j : Fin 16, x (ix3 r (0 : Fin 1) (highPlace (column g j)))
          * (highCode (w (ix2 n (column g j))) * s (ix2 n g) + m (ix2 n g)) := by
    unfold val_main_v24
    rw [product_apply]
    exact Finset.sum_congr rfl fun g _ => Finset.sum_congr rfl fun j _ => by rw [high_apply, highWeight_apply]
  rw [val_main_v26_apply, val_main_v25_apply, hl, hh]
  unfold element total
  rw [← sum_groups]
  change _ + _ = _
  rw [← Finset.sum_add_distrib]
  refine Finset.sum_congr rfl fun g _ => ?_
  rw [← Finset.sum_add_distrib]
  refine Finset.sum_congr rfl fun j _ => ?_
  have hg : ∀ h : (column g j).val / 16 < 396, (⟨(column g j).val / 16, h⟩ : Fin 396) = g := fun _ =>
    Fin.ext (by show (g.val * 16 + j.val) / 16 = g.val; omega)
  unfold term
  rw [hg]

end Cert.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.FrameBits
public import proofs.«01_k».proof.Proof.Result
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.ShloMosaic.ValueIdx Idealize.SL.Sem

/-- The kernel at exact arithmetic runs, and leaves its arguments as they were and every counter at zero. -/
theorem quiescent_kernelIdeal : Cert.quiescent_KernelIdeal := fun m ρ _ =>
  (θ_run Cert.KernelIdeal.defs _ _).mono (fun _ h => ⟨fun c => (h.1 c).2, h.2⟩) (Cert.Run.run m ρ)

/-- The reference at exact arithmetic runs, and leaves its arguments as they were and every counter at zero. -/
theorem quiescent_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Two arrays of the result's shape that agree at every row and column are equal. -/
theorem ext_rows {α : Type} {f g : Cert.ReferenceIdeal.S192x1x2432.Idx → α}
    (h : ∀ (r : Fin 192) (n : Fin 2432), f (ix3 r (0 : Fin 1) n) = g (ix3 r (0 : Fin 1) n)) : f = g := funext fun j => by
  have e : j = ix3 (j 0) (0 : Fin 1) (j 2) :=
    (eq_ix3 j).trans (congrArg (fun z => ix3 (j 0) z (j 2)) (Subsingleton.elim (α := Fin 1) _ _))
  rw [e]
  exact h _ _

/-- At exact arithmetic the kernel's result is the reference's. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v26 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.Run.result m c :=
  ext_rows fun r n => (Cert.RefValue.result_apply _ _ _ _ r n).trans (Cert.Run.result_apply m c r n).symm

/-- From memories that agree on the arguments both programs run, and end with equal results and unchanged arguments. -/
theorem algebraic : Cert.algebraic_KernelIdeal_ReferenceIdeal := by
  intro m g m' g' _ hm
  refine ⟨fun c => Cert.Run.result m c, (θ_run Cert.KernelIdeal.defs _ _).mono (fun _ h => h.1) (Cert.Run.run m g),
    (θ_run Cert.ReferenceIdeal.defs _ _).mono (fun _ h c => ⟨(h c).1.trans ?_, (h c).2⟩)
      (Cert.ReferenceIdeal.Value.run (F := Ideal) m' g')⟩
  obtain ⟨h0, h1, h2, h3⟩ := hm c
  rw [h0, h1, h2, h3]
  exact (Cert.ReferenceIdeal.Read.val_main_v26_eq _ _ _ _).trans (result_eq m c)

/-- Everything claimed. -/
theorem claim : Cert.Claim := ⟨Cert.Kernel.Gen.facts, Cert.KernelIdeal.Gen.facts, Cert.ReferenceIdeal.Gen.facts,
  fun m ρ _ => Cert.FrameBits.frame m ρ, quiescent_kernelIdeal, quiescent_referenceIdeal,
  trivial, algebraic⟩

end Cert.Proof

end
